-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : FVec F S4x4096x1024 .f32) (main_arg2 : FVec F S4x4096x1024 .f32) (main_arg3 : FVec F S4x4096x1024 .f32) : IVec S_ 1 :=
  let main_v0 : FVec F S4x4096x1024 .f32 := Host.absf main_arg3
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  main_v8
-- ==== Kernel.lean ====
abbrev S4x4096x1024 : Shape := ⟨3, ![4, 4096, 1024]⟩
abbrev S2x512x1024 : Shape := ⟨3, ![2, 512, 1024]⟩
abbrev S2x1x1024 : Shape := ⟨3, ![2, 1, 1024]⟩
abbrev S1x8x1 : Shape := ⟨3, ![1, 8, 1]⟩
abbrev S2x8x1024 : Shape := ⟨3, ![2, 8, 1024]⟩
abbrev S2x7x1024 : Shape := ⟨3, ![2, 7, 1024]⟩
abbrev S2x2x1024 : Shape := ⟨3, ![2, 2, 1024]⟩
abbrev S2x6x1024 : Shape := ⟨3, ![2, 6, 1024]⟩
abbrev S2x4x1024 : Shape := ⟨3, ![2, 4, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .local _ .vmem, ⟨0, _⟩ => ⟨S2x512x1024, .f32⟩
  | .local _ .vmem, ⟨1, _⟩ => ⟨S2x512x1024, .f32⟩
  | .local _ .vmem, ⟨2, _⟩ => ⟨S2x512x1024, .f32⟩
  | .local _ .vmem, ⟨3, _⟩ => ⟨S2x512x1024, .f32⟩
  | .local _ .vmem, ⟨4, _⟩ => ⟨S2x512x1024, .f32⟩
  | .local _ .vmem, ⟨5, _⟩ => ⟨S2x512x1024, .f32⟩
  | .local _ .vmem, ⟨6, _⟩ => ⟨S2x512x1024, .f32⟩
  | .local _ .vmem, ⟨7, _⟩ => ⟨S2x512x1024, .f32⟩
  | .local _ .vmem, ⟨8, _⟩ => ⟨S2x1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_3 : BitVec 32 := 0#32
  let c32_i32 : BitVec 32 := 32#32
  let v5 : BitVec 32 := Scalar.addi c0_i32_3 c32_i32
  let c1_i32 : BitVec 32 := 1#32
  ⟨c0_i32_3, v5, c1_i32⟩
def k0_off1 (k0_t1 : Fin k0_t1_loop.trips) : Fin 3 → Nat :=
  let c0_8 : Index := 0#32
  let c2_i32 : BitVec 32 := 2#32
  let c0_i32_3 : BitVec 32 := 0#32
  let c1_i32 : BitVec 32 := 1#32
  let arg7 : BitVec 32 := Scf.iv c0_i32_3 c1_i32 k0_t1
  let v10 : BitVec 32 := Scalar.muli c2_i32 arg7
  let c8_i32 : BitVec 32 := 8#32
  let v11 : BitVec 32 := Scalar.muli v10 c8_i32
  let v12 : Index := Scalar.indexCast v11
  let c0_9 : Index := 0#32
  ![0, v12.toNat, 0]
def k0_off2 (k0_t1 : Fin k0_t1_loop.trips) : Fin 3 → Nat :=
  let c0_26 : Index := 0#32
  let c2_i32_23 : BitVec 32 := 2#32
  let c0_i32_3 : BitVec 32 := 0#32
  let c1_i32 : BitVec 32 := 1#32
  let arg7 : BitVec 32 := Scf.iv c0_i32_3 c1_i32 k0_t1
  let v82 : BitVec 32 := Scalar.muli c2_i32_23 arg7
  let c1_i32_24 : BitVec 32 := 1#32
  let v83 : BitVec 32 := Scalar.addi v82 c1_i32_24
  let c8_i32_25 : BitVec 32 := 8#32
  let v84 : BitVec 32 := Scalar.muli v83 c8_i32_25
  let v85 : Index := Scalar.indexCast v84
  let c0_27 : Index := 0#32
  ![0, v85.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x4096x1024 : Shape := ⟨3, ![4, 4096, 1024]⟩
abbrev S4096x4x1024 : Shape := ⟨3, ![4096, 4, 1024]⟩
abbrev S_ : Shape := ⟨0, ![]⟩
abbrev S4x1024 : Shape := ⟨2, ![4, 1024]⟩
abbrev S1x4x1024 : Shape := ⟨3, ![1, 4, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4096x4x1024, .f32⟩
  | .hbm, ⟨5, _⟩ => ⟨S4096x4x1024, .f32⟩
  | .hbm, ⟨6, _⟩ => ⟨S4096x4x1024, .f32⟩
  | .hbm, ⟨7, _⟩ => ⟨S_, .f32⟩
  | .hbm, ⟨8, _⟩ => ⟨S4x1024, .f32⟩
  | .hbm, ⟨9, _⟩ => ⟨S_, .f32⟩
  | .hbm, ⟨10, _⟩ => ⟨S4096x4x1024, .f32⟩
  | .hbm, ⟨11, _⟩ => ⟨S_, .i32⟩
  | .hbm, ⟨12, _⟩ => ⟨S4096x4x1024, .f32⟩
  | .hbm, ⟨13, _⟩ => ⟨S4096x4x1024, .f32⟩
  | .hbm, ⟨14, _⟩ => ⟨S4096x4x1024, .f32⟩
  | .hbm, ⟨15, _⟩ => ⟨S_, .i32⟩
  | .hbm, ⟨16, _⟩ => ⟨S4x1024, .f32⟩
  | .hbm, ⟨17, _⟩ => ⟨S4096x4x1024, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x4x1024, .f32⟩
  | .hbm, ⟨23, _⟩ => ⟨S4x1024, .f32⟩
  | .hbm, ⟨24, _⟩ => ⟨S_, .i32⟩
  | .hbm, ⟨25, _⟩ => ⟨S_, .i32⟩
  | .hbm, ⟨26, _⟩ => ⟨S1x4x1024, .f32⟩
  | .hbm, ⟨27, _⟩ => ⟨S4x1024, .f32⟩
  | .hbm, ⟨28, _⟩ => ⟨S_, .i32⟩
  | .hbm, ⟨29, _⟩ => ⟨S_, .i32⟩
  | .hbm, ⟨30, _⟩ => ⟨S1x4x1024, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S4x1024, .f32⟩
  | .hbm, ⟨35, _⟩ => ⟨S1x4x1024, .f32⟩
  | .hbm, ⟨36, _⟩ => ⟨S_, .i32⟩
  | .hbm, ⟨37, _⟩ => ⟨S_, .i32⟩
  | .hbm, ⟨38, _⟩ => ⟨S4096x4x1024, .f32⟩
  | .hbm, ⟨39, _⟩ => ⟨S_, .i32⟩
  | .hbm, ⟨40, _⟩ => ⟨S_, .i32⟩
  | .hbm, ⟨41, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_c : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_while0c_c_6 : Ref sig .tc := ⟨.hbm, 18, rfl⟩
abbrev main_while0c_v7 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v7 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_v0 : Ref sig .tc := ⟨.hbm, 26, rfl⟩
abbrev main_while0b_v8 : Ref sig .tc := ⟨.hbm, 27, rfl⟩
abbrev main_while0b_call2_c : Ref sig .tc := ⟨.hbm, 28, rfl⟩
abbrev main_while0b_call2_c_0 : Ref sig .tc := ⟨.hbm, 29, rfl⟩
abbrev main_while0b_call2_v0 : Ref sig .tc := ⟨.hbm, 30, rfl⟩
abbrev main_while0b_v9 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_call3_v0 : Ref sig .tc := ⟨.hbm, 35, rfl⟩
abbrev main_while0b_call3_c : Ref sig .tc := ⟨.hbm, 36, rfl⟩
abbrev main_while0b_call3_c_0 : Ref sig .tc := ⟨.hbm, 37, rfl⟩
abbrev main_while0b_v13 : Ref sig .tc := ⟨.hbm, 38, rfl⟩
abbrev main_while0b_c_6 : Ref sig .tc := ⟨.hbm, 39, rfl⟩
abbrev main_while0b_v14 : Ref sig .tc := ⟨.hbm, 40, rfl⟩
abbrev main_v6 : Ref sig .tc := ⟨.hbm, 41, rfl⟩

abbrev nD : Nat := 1
abbrev τ : Topo := Topo.v7x

variable {F : FTy → Type} [FloatOps F]

abbrev main_while0_count : Scf.Loop 32 := ⟨0#32, 4096#32, 1#32⟩
-- ==== Proof.Scan.Cell.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.VecWindow
public import Idealize.ShloMosaic.Lib.WritesUnit
public import Idealize.ShloMosaic.Lib.Pointwise

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic

variable {F : FTy → Type} [FloatOps F]

/-! ## What one block's loop computes, as plain functions of the three input blocks -/

/-- The row number of each of a chunk's eight rows. -/
def rowNo : IVec S1x8x1 32 := iota .tc S1x8x1 32 [1] iota_S1x8x1_d1_w32

/-- The eight rows of a block that start at row `o`. -/
def rowsAt {α : Type} (o : ℕ) (x : S2x512x1024.Idx → α) : S2x8x1024.Idx → α :=
  fun y => x (ix3 (y 0) ⟨(o + (y 1).val) % 512, Nat.mod_lt _ (by decide)⟩ (y 2))

/-- The eight states of one chunk, from its decay rows, its input rows and the state before it. -/
def chunkH (a b : Vec F S2x8x1024 .f32) (h : Vec F S2x1x1024 .f32) : Vec F S2x8x1024 .f32 :=
  k0_pay11 h (k0_pay8 rowNo a b) (k0_pay9 rowNo a) (k0_pay10 rowNo)

/-- The state before chunk `n` of a block entered in state `h`. -/
def carry (a b : Vec F S2x512x1024 .f32) (h : Vec F S2x1x1024 .f32) : ℕ → Vec F S2x1x1024 .f32
  | 0 => h
  | n + 1 => k0_pay3 (chunkH (rowsAt (8 * n) a) (rowsAt (8 * n) b) (carry a b h n))

/-- The outputs of chunk `n` of a block. -/
def chunkY (a b c : Vec F S2x512x1024 .f32) (h : Vec F S2x1x1024 .f32) (n : ℕ) : Vec F S2x8x1024 .f32 :=
  mulf (rowsAt (8 * n) c) (chunkH (rowsAt (8 * n) a) (rowsAt (8 * n) b) (carry a b h n))

/-- The block's outputs: row `i` belongs to chunk `i / 8`, where it is row `i % 8`. -/
def outBlock (a b c : Vec F S2x512x1024 .f32) (h : Vec F S2x1x1024 .f32) : Vec F S2x512x1024 .f32 :=
  fun i => chunkY a b c h ((i 1).val / 8) (ix3 (i 0) ⟨(i 1).val % 8, Nat.mod_lt _ (by decide)⟩ (i 2))

/-- The load of eight rows at offset `off` of what a block's memref holds. -/
def rd (v : View sig .tc .vmem S2x512x1024 .f32) (f : v.ty.Contents (Elt F)) {off : Fin 3 → ℕ}
    (inb : ∀ a : Fin 3, off a + S2x8x1024.size a ≤ S2x512x1024.size a) : Vec F S2x8x1024 .f32 :=
  v.readAt (Elt F) (Rect.unit (s := S2x512x1024) off S2x8x1024.size inb).toLoadRect f

/-- A load of eight rows starting at row `o` reads `rowsAt o`. -/
theorem rd_eq (v : View sig .tc .vmem S2x512x1024 .f32) (f : v.ty.Contents (Elt F)) {off : Fin 3 → ℕ} (o : ℕ)
    (inb : ∀ a : Fin 3, off a + S2x8x1024.size a ≤ S2x512x1024.size a) (h : off = ![0, o, 0]) (ho : o + 8 ≤ 512) :
    rd v f inb = rowsAt o (v.read (Elt F) f) := by
  subst h
  funext y
  refine congrArg (v.read (Elt F) f) (funext fun a => Fin.ext ?_)
  have h1 : (y 1).val < 8 := (y 1).isLt
  fin_cases a
  · show 0 + 1 * (y 0).val = (y 0).val
    omega
  · show o + 1 * (y 1).val = (o + (y 1).val) % 512
    omega
  · show 0 + 1 * (y 2).val = (y 2).val
    omega

section Trip

variable (𝒱 : Variants) (c : Dev nD) (bd : Option 𝒱.V) (i : grid0.Coords)
  (arg2 : Memref sig .tc .vmem S2x512x1024 .f32) (harg2 : arg2.IsWhole)
  (arg3 : Memref sig .tc .vmem S2x512x1024 .f32) (harg3 : arg3.IsWhole)
  (arg4 : Memref sig .tc .vmem S2x512x1024 .f32) (harg4 : arg4.IsWhole)
  (arg5 : Memref sig .tc .vmem S2x512x1024 .f32) (harg5 : arg5.IsWhole)
  (arg6 : Memref sig .tc .vmem S2x1x1024 .f32) (harg6 : arg6.IsWhole)
  (X2 : BufTy.Contents (Elt F) arg2.view.ty) (X3 : BufTy.Contents (Elt F) arg3.view.ty)
  (X4 : BufTy.Contents (Elt F) arg4.view.ty)

/-- What one trip yields: the state after its second chunk. -/
theorem tripR_eq (k : Fin k0_t1_loop.trips) (acc : Vec F S2x1x1024 .f32) :
    tripR_k0_t1 (F := F) 𝒱 c bd i arg2 harg2 arg3 harg3 arg4 harg4 arg5 harg5 arg6 harg6 rowNo X2 X3 X4 k acc
      = k0_pay3 (chunkH (rd arg4.view X4 (k0_off2_inb k))
          (rd arg2.view X2 (k0_off2_inb k))
          (k0_pay3 (chunkH (rd arg4.view X4 (k0_off1_inb k))
            (rd arg2.view X2 (k0_off1_inb k)) acc))) := by
  unfold tripR_k0_t1 trip_k0_t1
  rfl

/-- What one trip writes: the outputs of its two chunks, the second first. -/
theorem tripL_eq (k : Fin k0_t1_loop.trips) (acc : Vec F S2x1x1024 .f32) :
    tripL_k0_t1 (F := F) 𝒱 c bd i arg2 harg2 arg3 harg3 arg4 harg4 arg5 harg5 arg6 harg6 rowNo X2 X3 X4 k acc
      = [⟨Rect.unit (s := S2x512x1024) (k0_off2 k) S2x8x1024.size (k0_off2_inb k),
          mulf (rd arg3.view X3 (k0_off2_inb k))
            (chunkH (rd arg4.view X4 (k0_off2_inb k))
              (rd arg2.view X2 (k0_off2_inb k))
              (k0_pay3 (chunkH (rd arg4.view X4 (k0_off1_inb k))
                (rd arg2.view X2 (k0_off1_inb k)) acc)))⟩,
         ⟨Rect.unit (s := S2x512x1024) (k0_off1 k) S2x8x1024.size (k0_off1_inb k),
          mulf (rd arg3.view X3 (k0_off1_inb k))
            (chunkH (rd arg4.view X4 (k0_off1_inb k))
              (rd arg2.view X2 (k0_off1_inb k)) acc)⟩] := by
  unfold tripL_k0_t1 trip_k0_t1
  rfl

/-- After `k` trips the loop carries the state before chunk `2 k`, and rows below `16 k` of the output hold the block's
    outputs. -/
theorem st_eq (h : Vec F S2x1x1024 .f32) : ∀ k : ℕ, k ≤ 32 →
    (st_k0_t1 (F := F) 𝒱 c bd i arg2 harg2 arg3 harg3 arg4 harg4 arg5 harg5 arg6 harg6 rowNo X2 X3 X4 h k).1
      = carry (arg4.view.read (Elt F) X4) (arg2.view.read (Elt F) X2) h (2 * k)
    ∧ ∀ (G : BufTy.Contents (Elt F) arg5.view.ty) (y : S2x512x1024.Idx), (y 1).val < 16 * k →
      arg5.view.read (Elt F) (arg5.view.writes (Elt F) G
        (st_k0_t1 (F := F) 𝒱 c bd i arg2 harg2 arg3 harg3 arg4 harg4 arg5 harg5 arg6 harg6 rowNo X2 X3 X4 h k).2) y
      = outBlock (arg4.view.read (Elt F) X4) (arg2.view.read (Elt F) X2) (arg3.view.read (Elt F) X3) h y
  | 0, _ => ⟨rfl, fun _ _ hy => absurd hy (Nat.not_lt_zero _)⟩
  | k + 1, hk => by
    obtain ⟨ih1, ih2⟩ := st_eq h k (by omega)
    have hkt : k < k0_t1_loop.trips := lt_of_lt_of_eq (by omega) (show 32 = k0_t1_loop.trips by decide +kernel)
    have o1 := k0_off1_eq ⟨k, hkt⟩
    have o2 := k0_off2_eq ⟨k, hkt⟩
    have hs := st_k0_t1_succ (F := F) 𝒱 c bd i arg2 harg2 arg3 harg3 arg4 harg4 arg5 harg5 arg6 harg6 rowNo X2 X3 X4 h ⟨k, hkt⟩
    dsimp only at hs o1 o2
    rw [ih1, tripR_eq, tripL_eq,
      rd_eq _ _ (16 * k) _ o1 (by omega), rd_eq _ _ (16 * k) _ o1 (by omega), rd_eq _ _ (16 * k) _ o1 (by omega),
      rd_eq _ _ (16 * k + 8) _ o2 (by omega), rd_eq _ _ (16 * k + 8) _ o2 (by omega), rd_eq _ _ (16 * k + 8) _ o2 (by omega)] at hs
    rw [hs]
    have e1 : 16 * k = 8 * (2 * k) := by omega
    have e2 : 16 * k + 8 = 8 * (2 * k + 1) := by omega
    refine ⟨?_, fun G y hy => ?_⟩
    · rw [e2, e1]
      rfl
    · simp only [List.cons_append, List.nil_append]
      by_cases h2 : 16 * k + 8 ≤ (y 1).val
      · have hd : (y 1).val / 8 = 2 * k + 1 := by omega
        refine (View.read_writes_cons_unit_of_mem (off' := ![0, 16 * k + 8, 0]) _ _ _ _ _ _
          (ix3 (y 0) ⟨(y 1).val % 8, Nat.mod_lt _ (by decide)⟩ (y 2)) o2 ?_).trans ?_
        · intro a
          fin_cases a
          · show (y 0).val = 0 + (y 0).val
            omega
          · show (y 1).val = 16 * k + 8 + (y 1).val % 8
            omega
          · show (y 2).val = 0 + (y 2).val
            omega
        · unfold outBlock chunkY
          rw [hd, e2, e1]
          rfl
      · refine (View.read_writes_cons_unit_of_not_mem (off' := ![0, 16 * k + 8, 0]) _ _ _ _ _ _ o2 1 (Or.inl (by
          show (y 1).val < 16 * k + 8
          omega))).trans ?_
        by_cases h1 : 16 * k ≤ (y 1).val
        · have hd : (y 1).val / 8 = 2 * k := by omega
          refine (View.read_writes_cons_unit_of_mem (off' := ![0, 16 * k, 0]) _ _ _ _ _ _
            (ix3 (y 0) ⟨(y 1).val % 8, Nat.mod_lt _ (by decide)⟩ (y 2)) o1 ?_).trans ?_
          · intro a
            fin_cases a
            · show (y 0).val = 0 + (y 0).val
              omega
            · show (y 1).val = 16 * k + (y 1).val % 8
              omega
            · show (y 2).val = 0 + (y 2).val
              omega
          · unfold outBlock chunkY
            rw [hd, e1]
            rfl
        · refine (View.read_writes_cons_unit_of_not_mem (off' := ![0, 16 * k, 0]) _ _ _ _ _ _ o1 1 (Or.inl (by
            show (y 1).val < 16 * k
            omega))).trans ?_
          exact ih2 G y (by omega)

end Trip

end Cert.KernelIdeal.Scan

end
-- ==== Proof.Scan.Body.lean ====
module

public import proofs.«01_k».proof.Proof.Scan.Cell
public import proofs.«01_k».proof.Proof.Gen.KernelIdeal.Skeleton
public import proofs.«01_k».proof.Proof.Gen.KernelIdeal.Points
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body resets the state it carries between grid points. -/
abbrev resets (i : grid0.Coords) : Prop := (Scalar.cmpi .ne (Scalar.extui (Scalar.cmpi .eq (BitVec.ofNat 32 (i 1).val) 0#32)) 0#32) = 1#1

/-- It resets at the points divisible by eight. -/
theorem resets_iff : ∀ t : Fin cfg0.N, resets (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [resets, e0, e1]
    word_cmp
   : ∀ t : Fin grid0.N, resets (grid0.coords t) ↔ t.val % 8 = 0)

section Runs

variable (c : Dev nD) (i : grid0.Coords)
  (arg2 : Memref sig .tc .vmem S2x512x1024 .f32) (harg2 : arg2.IsWhole)
  (arg3 : Memref sig .tc .vmem S2x512x1024 .f32) (harg3 : arg3.IsWhole)
  (arg4 : Memref sig .tc .vmem S2x512x1024 .f32) (harg4 : arg4.IsWhole)
  (arg5 : Memref sig .tc .vmem S2x512x1024 .f32) (harg5 : arg5.IsWhole)
  (arg6 : Memref sig .tc .vmem S2x1x1024 .f32) (harg6 : arg6.IsWhole)
  (x0 x1 x2 : Vec F S2x512x1024 .f32) (xs : Vec F S2x1x1024 .f32)

/-- What the body hands back when entered in state `h`: the inputs as they were, the block's outputs, and the state after
    the block's 64 chunks. -/
abbrev Left (h : Vec F S2x1x1024 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare (outBlock x2 x0 x1 h) ∗ owns (c : Thread nD τ) arg6 fullShare (carry x2 x0 h 64))

/-- After the loop's 32 trips the output's memref holds the block's outputs. -/
theorem out_read (h : Vec F S2x1x1024 .f32) (G : BufTy.Contents (Elt F) arg5.view.ty) :
    arg5.view.read (Elt F) (arg5.view.writes (Elt F) G
      (st_k0_t1 (F := F) Variants.none c none i arg2 harg2 arg3 harg3 arg4 harg4 arg5 harg5 arg6 harg6 rowNo
        (harg2.unread x0) (harg3.unread x1) (harg4.unread x2) h
        (Scf.trips k0_t1_loop.lb k0_t1_loop.ub k0_t1_loop.st)).2) = outBlock x2 x0 x1 h := by
  rw [show (Scf.trips k0_t1_loop.lb k0_t1_loop.ub k0_t1_loop.st) = 32 by decide +kernel]
  funext y
  rw [(st_eq (F := F) Variants.none c none i arg2 harg2 arg3 harg3 arg4 harg4 arg5 harg5 arg6 harg6
    (harg2.unread x0) (harg3.unread x1) (harg4.unread x2) h 32 le_rfl).2 G y (show (y 1).val < 512 from (y 1).isLt),
    harg2.read_unread, harg3.read_unread, harg4.read_unread]

/-- What the loop's 32 trips yield is the state after the block. -/
theorem carry_read (h : Vec F S2x1x1024 .f32) :
    k0_pay4 (st_k0_t1 (F := F) Variants.none c none i arg2 harg2 arg3 harg3 arg4 harg4 arg5 harg5 arg6 harg6 rowNo
        (harg2.unread x0) (harg3.unread x1) (harg4.unread x2) h
        (Scf.trips k0_t1_loop.lb k0_t1_loop.ub k0_t1_loop.st)).1 = carry x2 x0 h 64 := by
  rw [show (Scf.trips k0_t1_loop.lb k0_t1_loop.ub k0_t1_loop.st) = 32 by decide +kernel,
    (st_eq (F := F) Variants.none c none i arg2 harg2 arg3 harg3 arg4 harg4 arg5 harg5 arg6 harg6
    (harg2.unread x0) (harg3.unread x1) (harg4.unread x2) h 32 le_rfl).1,
    harg2.read_unread, harg4.read_unread]
  unfold k0_pay4
  exact shapeCast_self _ _

set_option maxHeartbeats 1000000 in
/-- A point that resets starts from the zero state, whatever the scratch held. -/
theorem body_reset (hc : resets i) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (Left c arg2 arg3 arg4 arg5 arg6 x0 x1 x2 k0_pay1 -∗ K ⟨⟩))
      ⊢ wp frame (wpE (defs₀ (F := F)) Variants.none c none) E (cc0__scan_body i arg2 harg2 arg3 harg3 arg4 harg4 arg5 harg5 arg6 harg6) K := by
  simp only [cc0__scan_body_eq_skeleton]; unfold cc0__scan_body_skel
  unfold Left owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    have e : body_reset.sl.v4 c arg6 = k0_pay1 (F := F) := View.readCov_full (Val := Elt F) arg6.view _ _ _ _
    rw [e]
    exact out_read c i arg2 harg2 arg3 harg3 arg4 harg4 arg5 harg5 arg6 harg6 x0 x1 x2 _ f3
  iexists _; isplitr; swap; · iexact HS0
  ipureintro
  have e : body_reset.sl.v4 c arg6 = k0_pay1 (F := F) := View.readCov_full (Val := Elt F) arg6.view _ _ _ _
  rw [e]
  exact (View.read_writes_full arg6.view _ _ _ _).trans
    (carry_read c i arg2 harg2 arg3 harg3 arg4 harg4 arg5 harg5 arg6 harg6 x0 x1 x2 _)

set_option maxHeartbeats 1000000 in
/-- Any other point goes on from the state the scratch holds. -/
theorem body_keep (hc : ¬ resets i) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (Left c arg2 arg3 arg4 arg5 arg6 x0 x1 x2 xs -∗ K ⟨⟩))
      ⊢ wp frame (wpE (defs₀ (F := F)) Variants.none c none) E (cc0__scan_body i arg2 harg2 arg3 harg3 arg4 harg4 arg5 harg5 arg6 harg6) K := by
  simp only [cc0__scan_body_eq_skeleton]; unfold cc0__scan_body_skel
  unfold Left owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.readAt_full, hfs0]
    exact out_read c i arg2 harg2 arg3 harg3 arg4 harg4 arg5 harg5 arg6 harg6 x0 x1 x2 _ f3
  iexists _; isplitr; swap; · iexact HS0
  ipureintro
  rw [View.readAt_full, hfs0]
  exact (View.read_writes_full arg6.view _ _ _ _).trans
    (carry_read c i arg2 harg2 arg3 harg3 arg4 harg4 arg5 harg5 arg6 harg6 x0 x1 x2 _)

end Runs

end Cert.KernelIdeal.Scan

end
-- ==== Proof.Scan.Run.lean ====
module

public import proofs.«01_k».proof.Proof.Scan.Body
public import Idealize.ShloMosaic.Lib.Claim

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs and the carried state -/

/-- The staging buffer of the input block at a point. -/
abbrev ms0 (t : Fin cfg0.N) : Memref sig .tc .vmem S2x512x1024 .f32 := win0_0.stage (cfg0.slots t 0)
/-- The staging buffer of the output-weight block at a point. -/
abbrev ms1 (t : Fin cfg0.N) : Memref sig .tc .vmem S2x512x1024 .f32 := win0_1.stage (cfg0.slots t 1)
/-- The staging buffer of the decay block at a point. -/
abbrev ms2 (t : Fin cfg0.N) : Memref sig .tc .vmem S2x512x1024 .f32 := win0_2.stage (cfg0.slots t 2)
/-- The staging buffer of the output block at a point. -/
abbrev ms3 (t : Fin cfg0.N) : Memref sig .tc .vmem S2x512x1024 .f32 := win0_3.stage (cfg0.slots t 3)
/-- The input block's staging buffer is a whole buffer. -/
abbrev hs0 (t : Fin cfg0.N) : (ms0 t).IsWhole := hstage0_0 ((cfg0.slots t 0).cast nbuf0_0)
/-- The output-weight block's staging buffer is a whole buffer. -/
abbrev hs1 (t : Fin cfg0.N) : (ms1 t).IsWhole := hstage0_1 ((cfg0.slots t 1).cast nbuf0_1)
/-- The decay block's staging buffer is a whole buffer. -/
abbrev hs2 (t : Fin cfg0.N) : (ms2 t).IsWhole := hstage0_2 ((cfg0.slots t 2).cast nbuf0_2)
/-- The output block's staging buffer is a whole buffer. -/
abbrev hs3 (t : Fin cfg0.N) : (ms3 t).IsWhole := hstage0_3 ((cfg0.slots t 3).cast nbuf0_3)

/-- The scratch that carries the state from one grid point to the next. -/
abbrev scM : Memref sig .tc .vmem S2x1x1024 .f32 := Memref.whole cc0_scratch0

/-- The input, output-weight and decay blocks at a point. -/
abbrev blkB (c : Dev nD) (t : Fin cfg0.N) : Vec F S2x512x1024 .f32 := iblk m c 0 t
/-- The output-weight block at a point. -/
abbrev blkC (c : Dev nD) (t : Fin cfg0.N) : Vec F S2x512x1024 .f32 := iblk m c 1 t
/-- The decay block at a point. -/
abbrev blkA (c : Dev nD) (t : Fin cfg0.N) : Vec F S2x512x1024 .f32 := iblk m c 2 t

/-- The state a point leaves in the scratch. -/
def leaves (c : Dev nD) : (n : ℕ) → n < cfg0.N → Vec F S2x1x1024 .f32
  | 0, hn => carry (blkA m c ⟨0, hn⟩) (blkB m c ⟨0, hn⟩) k0_pay1 64
  | n + 1, hn => carry (blkA m c ⟨n + 1, hn⟩) (blkB m c ⟨n + 1, hn⟩)
      (if (n + 1) % 8 = 0 then k0_pay1 else leaves c n (Nat.lt_of_succ_lt hn)) 64

/-- The state a point starts from: zero where it resets, what the point before left elsewhere. -/
def enters (c : Dev nD) (t : Fin cfg0.N) : Vec F S2x1x1024 .f32 :=
  if t.val % 8 = 0 then k0_pay1 else leaves m c (t.val - 1) (Nat.lt_of_le_of_lt (Nat.sub_le _ _) t.isLt)

/-- A point leaves the state its block's 64 chunks make of the state it starts from. -/
theorem leaves_eq (c : Dev nD) (t : Fin cfg0.N) :
    leaves m c t.val t.isLt = carry (blkA m c t) (blkB m c t) (enters m c t) 64 := by
  obtain ⟨n, hn⟩ := t
  cases n with
  | zero => rfl
  | succ n => rfl

/-- A point that resets starts from zero. -/
theorem enters_reset (c : Dev nD) (t : Fin cfg0.N) (h : t.val % 8 = 0) : enters m c t = k0_pay1 := if_pos h
/-- Any other point starts from what the point before left. -/
theorem enters_keep (c : Dev nD) (t : Fin cfg0.N) (h : ¬ t.val % 8 = 0) :
    enters m c t = leaves m c (t.val - 1) (Nat.lt_of_le_of_lt (Nat.sub_le _ _) t.isLt) := if_neg h

/-! ## The proof data -/

/-- What the body may use beside its blocks: the scratch with some contents, and the generator. -/
theorem PhiA_eq (c : Dev nD) : (Pipeline.ΦA spec0 c : sProp 𝕄)
    = iprop((∃ d, owns (c : Thread nD τ) scM fullShare d) ∗ (∃ r, prngReg c r)) := by
  unfold Pipeline.ΦA; rw [scopedRest0_eq]; simp only [scM, owns_whole]; try rfl

/-- Before the first point the scratch holds anything; before any other, the state the point before left. -/
def PhiS (c : Dev nD) : (n : ℕ) → n ≤ cfg0.N → sProp 𝕄
  | 0, _ => Pipeline.ΦA spec0 c
  | n + 1, hn => iprop(owns (c : Thread nD τ) scM fullShare (leaves m c n hn) ∗ (∃ r, prngReg c r))

/-- Before the first point nothing is known of the scratch. -/
theorem PhiS_zero (c : Dev nD) (n : ℕ) (h : n ≤ cfg0.N) (hz : n = 0) : PhiS m c n h = Pipeline.ΦA spec0 c := by
  subst hz; rfl

/-- After a point the scratch holds the state it leaves. -/
theorem PhiS_succ (c : Dev nD) (n : ℕ) (hn : n < cfg0.N) :
    PhiS m c (n + 1) hn = iprop(owns (c : Thread nD τ) scM fullShare (leaves m c n hn) ∗ (∃ r, prngReg c r)) := rfl

/-- Before any later point the scratch holds the state the point before left. -/
theorem PhiS_pos (c : Dev nD) (n : ℕ) (h : n ≤ cfg0.N) (hz : n ≠ 0) :
    PhiS m c n h = iprop(owns (c : Thread nD τ) scM fullShare (leaves m c (n - 1) (by omega)) ∗ (∃ r, prngReg c r)) := by
  cases n with
  | zero => exact absurd rfl hz
  | succ n => rfl

/-- The pipeline's proof data: the arrays as launched, each input's buffer at its block, the output's at the block's
    outputs from the state the point starts from. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (blkA m c t) (blkB m c t) (blkC m c t) (enters m c t)
  Φ t := PhiS m c t.val (Nat.le_of_lt_succ t.isLt)
  q _ := fullShare
  owed _ := 0

/-- The proof data's arrays are the launch's. -/
theorem A_eq (c : Dev nD) (w : Fin cfg0.W) : (dats m 0 c).A w = V m c (Pipeline.arrRef spec0 w) := by
  dsimp only [dats]

/-- What the proof data say before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- A point leaves the input block as it was. -/
theorem after_0 (c : Dev nD) (t : Fin cfg0.N) : (dats m 0 c).after 0 t = iblk m c 0 t := by dsimp only [dats]
/-- A point leaves the output-weight block as it was. -/
theorem after_1 (c : Dev nD) (t : Fin cfg0.N) : (dats m 0 c).after 1 t = iblk m c 1 t := by dsimp only [dats]
/-- A point leaves the decay block as it was. -/
theorem after_2 (c : Dev nD) (t : Fin cfg0.N) : (dats m 0 c).after 2 t = iblk m c 2 t := by dsimp only [dats]
/-- A point leaves the block's outputs in the output block. -/
theorem after_3 (c : Dev nD) (t : Fin cfg0.N) :
    (dats m 0 c).after 3 t = outBlock (blkA m c t) (blkB m c t) (blkC m c t) (enters m c t) := by dsimp only [dats]

/-- Before a point the input block is the array's. -/
theorem before_0 (c : Dev nD) (t : Fin cfg0.N) (d) : (dats m 0 c).before 0 t d = iblk m c 0 t :=
  before0_0_of m (dats m 0 c) (A_eq m c 0) (after_0 m c) t d
/-- Before a point the output-weight block is the array's. -/
theorem before_1 (c : Dev nD) (t : Fin cfg0.N) (d) : (dats m 0 c).before 1 t d = iblk m c 1 t :=
  before0_1_of m (dats m 0 c) (A_eq m c 1) (after_1 m c) t d
/-- Before a point the decay block is the array's. -/
theorem before_2 (c : Dev nD) (t : Fin cfg0.N) (d) : (dats m 0 c).before 2 t d = iblk m c 2 t :=
  before0_2_of m (dats m 0 c) (A_eq m c 2) (after_2 m c) t d

/-! ## The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns there. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1000000 in
/-- The body at any point: by whether the point resets, and whether it is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    after_0, after_1, after_2, after_3]
  rw [show (dats m 0 c).Φ t.succ = PhiS m c (t.val + 1) t.isLt from rfl, PhiS_succ, leaves_eq]
  by_cases h0 : t.val % 8 = 0
  · rw [enters_reset m c t h0]
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩, ⟨%d3, H3⟩⟩
      iapply (body_reset c (grid0.coords t) _ (hs0 t) _ (hs1 t) _ (hs2 t) _ (hs3 t) _ (Memref.isWhole_whole _) (blkB m c t) (blkC m c t) (blkA m c t) ((resets_iff t).mpr h0) Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply (body_reset c (grid0.coords t) _ (hs0 t) _ (hs1 t) _ (hs2 t) _ (hs3 t) _ (Memref.isWhole_whole _) (blkB m c t) (blkC m c t) (blkA m c t) ((resets_iff t).mpr h0) Set.univ _)
      isplitl [H0]; · iexact H0
      isplitl [H1]; · iexact H1
      isplitl [H2]; · iexact H2
      isplitl [H3]; · iexists _; iexact H3
      isplitl [HS0]; · iexists _; iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexact H3
  · have hz : t.val ≠ 0 := fun h => h0 (by rw [h])
    rw [enters_keep m c t h0, PhiS_castSucc m c t, PhiS_pos m c _ _ hz]
    iintro ⟨⟨HS0, Hg⟩, Ho, ⟨%d0, H0⟩, ⟨%d1, H1⟩, ⟨%d2, H2⟩, ⟨%d3, H3⟩⟩
    iapply (body_keep c (grid0.coords t) _ (hs0 t) _ (hs1 t) _ (hs2 t) _ (hs3 t) _ (Memref.isWhole_whole _) (blkB m c t) (blkC m c t) (blkA m c t) _ (fun h => h0 ((resets_iff t).mp h)) Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hg]
    · isplitl [HS0]; · iexact HS0
      iexact Hg
    isplitl [Ho]; · iexact Ho
    isplitl [H0]; · iexact H0
    isplitl [H1]; · iexact H1
    isplitl [H2]; · iexact H2
    iexact H3

/-- The region's body at a point is the body called on that point's staging buffers. -/
theorem defs₀_row (t : Fin cfg0.N) :
    defs₀ (F := F) .tc cfg0.body (cfg0.bodyArgs t (cfg0.slots t)) = bodyAt0 t := by
  unfold defs₀; rw [Defs.onTc_tc]

/-- The body keeps the proof data at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The proof data ask nothing of the scratch before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch is given back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨HS0, Hg⟩
  isplitl [HS0]
  · iexists _; iexact HS0
  iexact Hg

/-! ## The run -/

set_option backward.isDefEq.respectTransparency.types false in
/-- Every execution ends with each window's array at the proof data's, every other buffer as launched, no counter left. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The output's array at the end is the proof data's, the arguments unchanged. -/
theorem run_value : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.2.1 c).1 3, h.1.1 c⟩) (θ_run_and (frame m ρ) (run_main m ρ))

end Cert.KernelIdeal.Scan

end
-- ==== Proof.Scan.Chunk.lean ====
module

public import proofs.«01_k».proof.Proof.Scan.Cell

@[expose] public section

set_option maxRecDepth 16384

noncomputable section

namespace Cert.KernelIdeal.Scan

open Cert.KernelIdeal Cert.KernelIdeal.Gen
open Idealize.ShloMosaic

/-! ## The recurrence, and eight steps of it by doubling -/

/-- The state after `n` steps of `h ↦ a * h + b`, started in state `h`. -/
def scan (a b : ℕ → EReal) (h : EReal) : ℕ → EReal
  | 0 => h
  | n + 1 => a n * scan a b h n + b n

/-- Steps `m`, `m + 1`, … of the recurrence are its steps from the state after `m` of them. -/
theorem scan_add (a b : ℕ → EReal) (h : EReal) (m n : ℕ) :
    scan a b h (m + n) = scan (fun j => a (m + j)) (fun j => b (m + j)) (scan a b h m) n := by
  induction n with
  | zero => rfl
  | succ n ih => show a (m + n) * scan a b h (m + n) + b (m + n) = _; rw [ih]; rfl

/-- The first `n` steps read only the first `n` coefficients. -/
theorem scan_congr {a b a' b' : ℕ → EReal} {h : EReal} {n : ℕ} (ha : ∀ j < n, a j = a' j) (hb : ∀ j < n, b j = b' j) :
    scan a b h n = scan a' b' h n := by
  induction n with
  | zero => rfl
  | succ n ih =>
    show a n * scan a b h n + b n = a' n * scan a' b' h n + b' n
    rw [ih (fun j hj => ha j (by omega)) fun j hj => hb j (by omega), ha n (by omega), hb n (by omega)]

/-- With real coefficients, started in a real state, every state is real. -/
theorem scan_real {a b : ℕ → EReal} (ha : ∀ j, ∃ x : ℝ, a j = x) (hb : ∀ j, ∃ x : ℝ, b j = x) {h : EReal}
    (hh : ∃ x : ℝ, h = x) (n : ℕ) : ∃ x : ℝ, scan a b h n = x := by
  induction n with
  | zero => exact hh
  | succ n ih =>
    obtain ⟨u, hu⟩ := ha n
    obtain ⟨v, hv⟩ := hb n
    obtain ⟨w, hw⟩ := ih
    exact ⟨u * w + v, by show a n * scan a b h n + b n = _; rw [hu, hv, hw]; push_cast; rfl⟩

/-- An array's entries at one batch entry and lane, over time. -/
def timeSeq (x : S4x4096x1024.Idx → EReal) (q : Fin 4) (d : Fin 1024) : ℕ → EReal :=
  fun j => x (ix3 q ⟨j % 4096, Nat.mod_lt _ (by decide)⟩ d)

/-- The selective scan itself: at each time the weight times the state `h ↦ a * h + b` has reached from zero. -/
def weighted (a b c : S4x4096x1024.Idx → EReal) : S4x4096x1024.Idx → EReal :=
  fun i => c i * scan (timeSeq a (i 0) (i 2)) (timeSeq b (i 0) (i 2)) 0 ((i 1).val + 1)

/-- Eight values moved `k` rows up, the first `k` rows filled with `z`. -/
def up (k : ℕ) (z : EReal) (x : Fin 8 → EReal) : Fin 8 → EReal :=
  fun r => if r.val < k then z else x ⟨r.val - k, by omega⟩

/-- One doubling of the decay products. -/
def dblA (k : ℕ) (a : Fin 8 → EReal) : Fin 8 → EReal := fun r => a r * up k 1 a r

/-- One doubling of the partial sums. -/
def dblB (k : ℕ) (a b : Fin 8 → EReal) : Fin 8 → EReal := fun r => a r * up k 0 b r + b r

/-- The state after row `r`: three doublings, then the state before the chunk put in. -/
def dbl (a b : Fin 8 → EReal) (h : EReal) : Fin 8 → EReal := fun r =>
  dblA 4 (dblA 2 (dblA 1 a)) r * h + dblB 4 (dblA 2 (dblA 1 a)) (dblB 2 (dblA 1 a) (dblB 1 a b)) r

/-- With real coefficients and a real state, the three doublings are the recurrence. -/
theorem dbl_eq (a b : ℕ → ℝ) (h : ℝ) (r : Fin 8) :
    dbl (fun i => (a i.val : EReal)) (fun i => (b i.val : EReal)) h r
      = scan (fun j => (a j : EReal)) (fun j => (b j : EReal)) h (r.val + 1) := by
  fin_cases r <;> simp [dbl, dblA, dblB, up, scan] <;> norm_cast <;> ring

/-! ## The kernel's chunk is that doubling -/

/-- The mask of the doubling by one row fills the first row. -/
theorem mask1 {α : Type} (r : Fin 8) (x y : α) :
    Scalar.select (IntOp.cmpi .slt (BitVec.ofNat 32 r.val) 1#32) x y = if r.val < 1 then x else y := by
  fin_cases r <;> rfl

/-- The mask of the doubling by two rows fills the first two rows. -/
theorem mask2 {α : Type} (r : Fin 8) (x y : α) :
    Scalar.select (IntOp.cmpi .slt (BitVec.ofNat 32 r.val) 2#32) x y = if r.val < 2 then x else y := by
  fin_cases r <;> rfl

/-- The mask of the doubling by four rows fills the first four rows. -/
theorem mask4 {α : Type} (r : Fin 8) (x y : α) :
    Scalar.select (IntOp.cmpi .slt (BitVec.ofNat 32 r.val) 4#32) x y = if r.val < 4 then x else y := by
  fin_cases r <;> rfl

/-- A row of a chunk at one batch entry and lane, as eight values. -/
abbrev col (x : Vec Ideal S2x8x1024 .f32) (p : Fin 2) (d : Fin 1024) : Fin 8 → EReal := fun r => x (ix3 p r d)

/-- The kernel's decay products after the doubling by one row. -/
theorem pay6_col (a : Vec Ideal S2x8x1024 .f32) (p : Fin 2) (d : Fin 1024) :
    col (k0_pay6 (F := Ideal) rowNo a) p d = dblA 1 (col a p d) := by
  funext r
  simp only [col, k0_pay6, k0_pay5, rowNo]
  pointwise
  rw [mask1]
  unfold dblA up
  split <;> simp_all

/-- The kernel's decay products after the doubling by two rows. -/
theorem pay9_col (a : Vec Ideal S2x8x1024 .f32) (p : Fin 2) (d : Fin 1024) :
    col (k0_pay9 (F := Ideal) rowNo a) p d = dblA 2 (dblA 1 (col a p d)) := by
  rw [← pay6_col]
  funext r
  simp only [col, k0_pay9, k0_pay7, rowNo]
  generalize k0_pay6 (F := Ideal) _ a = x
  pointwise
  rw [mask2]
  unfold dblA up
  split <;> simp_all

/-- The partial sums after the doubling by one row. -/
def stage1 (a b : Vec Ideal S2x8x1024 .f32) : Vec Ideal S2x8x1024 .f32 :=
  addf (mulf a (select (broadcastTo S2x8x1024 (shapeCast S1x8x1 (k0_pay5 rowNo) shapeCasts_S1x8x1_S1x8x1) broadcasts_S1x8x1_S2x8x1024)
    (broadcast S2x8x1024 (Scalar.ofBits (F := Ideal) .f32 0x00000000#32))
    (concatenate S2x8x1024 1 [⟨S2x1x1024, extractStridedSlice S2x1x1024 ![0, 7, 0] b slices_S2x8x1024_o0_7_0_S2x1x1024⟩,
      ⟨S2x7x1024, extractStridedSlice S2x7x1024 ![0, 0, 0] b slices_S2x8x1024_o0_0_0_S2x7x1024⟩]
      concatenates_S2x1x1024_S2x7x1024_S2x8x1024_d1))) b

/-- The kernel's partial sums after the doubling by two rows, over those after the doubling by one. -/
theorem pay8_eq (a b : Vec Ideal S2x8x1024 .f32) : k0_pay8 (F := Ideal) rowNo a b =
    addf (mulf (k0_pay6 rowNo a) (select (broadcastTo S2x8x1024 (shapeCast S1x8x1 (k0_pay7 rowNo) shapeCasts_S1x8x1_S1x8x1) broadcasts_S1x8x1_S2x8x1024)
      (broadcast S2x8x1024 (Scalar.ofBits (F := Ideal) .f32 0x00000000#32))
      (concatenate S2x8x1024 1 [⟨S2x2x1024, extractStridedSlice S2x2x1024 ![0, 6, 0] (stage1 a b) slices_S2x8x1024_o0_6_0_S2x2x1024⟩,
        ⟨S2x6x1024, extractStridedSlice S2x6x1024 ![0, 0, 0] (stage1 a b) slices_S2x8x1024_o0_0_0_S2x6x1024⟩]
        concatenates_S2x2x1024_S2x6x1024_S2x8x1024_d1))) (stage1 a b) := rfl

/-- The partial sums after the doubling by one row, column by column. -/
theorem stage1_col (a b : Vec Ideal S2x8x1024 .f32) (p : Fin 2) (d : Fin 1024) :
    col (stage1 a b) p d = dblB 1 (col a p d) (col b p d) := by
  funext r
  simp only [col, stage1, k0_pay5, rowNo]
  pointwise
  rw [mask1 r]
  unfold dblB up
  split <;> simp_all

/-- The kernel's partial sums after the doubling by two rows, column by column. -/
theorem pay8_col (a b : Vec Ideal S2x8x1024 .f32) (p : Fin 2) (d : Fin 1024) :
    col (k0_pay8 (F := Ideal) rowNo a b) p d = dblB 2 (dblA 1 (col a p d)) (dblB 1 (col a p d) (col b p d)) := by
  rw [← pay6_col, ← stage1_col, pay8_eq]
  funext r
  simp only [col, k0_pay7, rowNo]
  generalize k0_pay6 (F := Ideal) _ a = x
  generalize stage1 a b = y
  pointwise
  rw [mask2 r]
  unfold dblB up
  split <;> simp_all

/-- The eight states of a chunk, at one batch entry and lane. -/
theorem chunkH_col (a b : Vec Ideal S2x8x1024 .f32) (h : Vec Ideal S2x1x1024 .f32) (p : Fin 2) (d : Fin 1024) :
    col (chunkH (F := Ideal) a b h) p d = dbl (col a p d) (col b p d) (h (ix3 p 0 d)) := by
  unfold dbl
  rw [← pay8_col, ← pay9_col]
  funext r
  simp only [col, chunkH, k0_pay11, k0_pay10, rowNo]
  generalize k0_pay8 (F := Ideal) _ a b = x
  generalize k0_pay9 (F := Ideal) _ a = y
  pointwise
  rw [mask4, mask4]
  unfold dblA dblB up
  split <;> simp_all

end Cert.KernelIdeal.Scan
-- ==== Proof.Scan.Value.lean ====
module

public import proofs.«01_k».proof.Proof.Scan.Run
public import proofs.«01_k».proof.Proof.Scan.Chunk
public import Idealize.ShloMosaic.Lib.Pipeline.ValueKit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic

/-! ## One block's states are the recurrence over the block's rows -/

/-- The block's entries at one batch entry and lane, row by row. -/
def rowSeq (x : Vec Ideal S2x512x1024 .f32) (p : Fin 2) (d : Fin 1024) : ℕ → EReal :=
  fun j => x (ix3 p ⟨j % 512, Nat.mod_lt _ (by decide)⟩ d)

/-- The state after row `r` of a chunk of real rows, entered in a real state. -/
theorem chunkH_scan (a b : Vec Ideal S2x8x1024 .f32) (h : Vec Ideal S2x1x1024 .f32) (p : Fin 2) (d : Fin 1024)
    (u v : ℕ → EReal) (hu : ∀ j, ∃ x : ℝ, u j = x) (hv : ∀ j, ∃ x : ℝ, v j = x) (hh : ∃ x : ℝ, h (ix3 p 0 d) = (x : EReal))
    (ha : ∀ r : Fin 8, a (ix3 p r d) = u r.val) (hb : ∀ r : Fin 8, b (ix3 p r d) = v r.val) (r : Fin 8) :
    chunkH (F := Ideal) a b h (ix3 p r d) = scan u v (h (ix3 p 0 d)) (r.val + 1) := by
  choose u' hu' using hu
  choose v' hv' using hv
  obtain ⟨h', hh'⟩ := hh
  obtain rfl : u = fun j => (u' j : EReal) := funext hu'
  obtain rfl : v = fun j => (v' j : EReal) := funext hv'
  have e := congrFun (chunkH_col a b h p d) r
  rw [show col a p d = fun i => (u' i.val : EReal) from funext ha, show col b p d = fun i => (v' i.val : EReal) from funext hb, hh',
    dbl_eq] at e
  rw [hh']; exact e

variable (a b : Vec Ideal S2x512x1024 .f32) (h : Vec Ideal S2x1x1024 .f32) (p : Fin 2) (d : Fin 1024)

/-- Row `r` of chunk `n` is row `8 n + r` of the block. -/
theorem rowsAt_seq (x : Vec Ideal S2x512x1024 .f32) (n : ℕ) (r : Fin 8) :
    rowsAt (8 * n) x (ix3 p r d) = rowSeq x p d (8 * n + r.val) := rfl

/-- The state before chunk `n` is the one after `8 n` steps of the recurrence. -/
theorem carry_scan (hu : ∀ j, ∃ x : ℝ, rowSeq a p d j = x) (hv : ∀ j, ∃ x : ℝ, rowSeq b p d j = x)
    (hh : ∃ x : ℝ, h (ix3 p 0 d) = (x : EReal)) (n : ℕ) :
    carry (F := Ideal) a b h n (ix3 p 0 d) = scan (rowSeq a p d) (rowSeq b p d) (h (ix3 p 0 d)) (8 * n) := by
  induction n with
  | zero => rfl
  | succ n ih =>
    have e : carry (F := Ideal) a b h (n + 1) (ix3 p 0 d)
        = chunkH (F := Ideal) (rowsAt (8 * n) a) (rowsAt (8 * n) b) (carry a b h n) (ix3 p 7 d) := by
      show k0_pay3 (F := Ideal) _ _ = _
      unfold k0_pay3
      generalize chunkH (F := Ideal) _ _ _ = y
      pointwise
      try rfl
    rw [e, chunkH_scan _ _ _ p d (fun j => rowSeq a p d (8 * n + j)) (fun j => rowSeq b p d (8 * n + j))
      (fun j => hu _) (fun j => hv _) (by rw [ih]; exact scan_real hu hv hh _) (fun r => rfl) fun r => rfl, ih, ← scan_add]
    rfl

/-- The block's outputs: the third input times the state after the row. -/
theorem outBlock_scan (c : Vec Ideal S2x512x1024 .f32) (hu : ∀ j, ∃ x : ℝ, rowSeq a p d j = x)
    (hv : ∀ j, ∃ x : ℝ, rowSeq b p d j = x) (hh : ∃ x : ℝ, h (ix3 p 0 d) = (x : EReal)) (r : Fin 512) :
    outBlock (F := Ideal) a b c h (ix3 p r d)
      = c (ix3 p r d) * scan (rowSeq a p d) (rowSeq b p d) (h (ix3 p 0 d)) (r.val + 1) := by
  have e : outBlock (F := Ideal) a b c h (ix3 p r d)
      = rowsAt (8 * (r.val / 8)) c (ix3 p ⟨r.val % 8, Nat.mod_lt _ (by decide)⟩ d)
        * chunkH (F := Ideal) (rowsAt (8 * (r.val / 8)) a) (rowsAt (8 * (r.val / 8)) b) (carry a b h (r.val / 8))
          (ix3 p ⟨r.val % 8, Nat.mod_lt _ (by decide)⟩ d) := rfl
  have hc : rowsAt (8 * (r.val / 8)) c (ix3 p ⟨r.val % 8, Nat.mod_lt _ (by decide)⟩ d) = c (ix3 p r d) := by
    rw [rowsAt_seq]
    unfold rowSeq
    congr 2
    exact Fin.ext (by show (8 * (r.val / 8) + r.val % 8) % 512 = r.val; have := r.isLt; omega)
  rw [e, hc, chunkH_scan _ _ _ p d (fun j => rowSeq a p d (8 * (r.val / 8) + j)) (fun j => rowSeq b p d (8 * (r.val / 8) + j))
    (fun j => hu _) (fun j => hv _) (by rw [carry_scan a b h p d hu hv hh]; exact scan_real hu hv hh _) (fun r => rfl) fun r => rfl,
    carry_scan a b h p d hu hv hh, ← scan_add]
  congr 2
  show 8 * (r.val / 8) + (r.val % 8 + 1) = r.val + 1
  omega

/-! ## The blocks of the three input arrays -/

variable (m : (ℓ : Loc nD τ sig) → Buf (Elt Ideal) ℓ)

/-- Which block of the inputs a point reads. -/
theorem e0 : ∀ t : Fin cfg0.N, win0_0.index t = ![t.val / 8, t.val % 8, 0] := by decide +kernel
/-- Which block of the output weights a point reads. -/
theorem e1 : ∀ t : Fin cfg0.N, win0_1.index t = ![t.val / 8, t.val % 8, 0] := by decide +kernel
/-- Which block of the decays a point reads. -/
theorem e2 : ∀ t : Fin cfg0.N, win0_2.index t = ![t.val / 8, t.val % 8, 0] := by decide +kernel
/-- Which block of the outputs a point writes. -/
theorem e3 : ∀ t : Fin cfg0.N, win0_3.index t = ![t.val / 8, t.val % 8, 0] := by decide +kernel

/-- There are sixteen points. -/
theorem lt16 (t : Fin cfg0.N) : t.val < 16 := lt_of_lt_of_eq t.isLt (by decide)

/-- The batch entry that entry `p` of a point's block is. -/
def batchOf (t : Fin cfg0.N) (p : Fin 2) : Fin 4 := ⟨2 * (t.val / 8) + p.val, by have := lt16 t; have := p.isLt; omega⟩

/-- The time that row `r` of a point's block is. -/
def timeOf (t : Fin cfg0.N) (r : Fin 512) : Fin 4096 := ⟨512 * (t.val % 8) + r.val, by have := r.isLt; omega⟩

/-- The input block's entries are the array's. -/
theorem blkB_at (c : Dev nD) (t : Fin cfg0.N) (r : Fin 512) :
    blkB m c t (ix3 p r d) = V m c main_arg1 (ix3 (batchOf t p) (timeOf t r) d) := by
  unfold blkB
  blk_ext [iblk, e0, batchOf, timeOf]

/-- The output-weight block's entries are the array's. -/
theorem blkC_at (c : Dev nD) (t : Fin cfg0.N) (r : Fin 512) :
    blkC m c t (ix3 p r d) = V m c main_arg2 (ix3 (batchOf t p) (timeOf t r) d) := by
  unfold blkC
  blk_ext [iblk, e1, batchOf, timeOf]

/-- The decay block's entries are the array's. -/
theorem blkA_at (c : Dev nD) (t : Fin cfg0.N) (r : Fin 512) :
    blkA m c t (ix3 p r d) = V m c main_arg3 (ix3 (batchOf t p) (timeOf t r) d) := by
  unfold blkA
  blk_ext [iblk, e2, batchOf, timeOf]

/-- The decays of a device at one batch entry and lane, over time. -/
abbrev decays (c : Dev nD) (q : Fin 4) (d : Fin 1024) : ℕ → EReal := timeSeq (V m c main_arg3) q d
/-- The inputs of a device at one batch entry and lane, over time. -/
abbrev inputs (c : Dev nD) (q : Fin 4) (d : Fin 1024) : ℕ → EReal := timeSeq (V m c main_arg1) q d

/-- A block's decays, row by row, are the array's from the block's first time on. -/
theorem rowSeq_A (c : Dev nD) (t : Fin cfg0.N) (j : ℕ) (hj : j < 512) :
    rowSeq (blkA m c t) p d j = decays m c (batchOf t p) d (512 * (t.val % 8) + j) := by
  unfold rowSeq
  rw [blkA_at]
  unfold decays timeSeq timeOf
  congr 2
  exact Fin.ext (by show 512 * (t.val % 8) + j % 512 = (512 * (t.val % 8) + j) % 4096; omega)

/-- A block's inputs, row by row, are the array's from the block's first time on. -/
theorem rowSeq_B (c : Dev nD) (t : Fin cfg0.N) (j : ℕ) (hj : j < 512) :
    rowSeq (blkB m c t) p d j = inputs m c (batchOf t p) d (512 * (t.val % 8) + j) := by
  unfold rowSeq
  rw [blkB_at]
  unfold inputs timeSeq timeOf
  congr 2
  exact Fin.ext (by show 512 * (t.val % 8) + j % 512 = (512 * (t.val % 8) + j) % 4096; omega)

/-- Every decay and every input is a real number. -/
def AllReal (c : Dev nD) : Prop :=
  (∀ i : S4x4096x1024.Idx, ∃ x : ℝ, V m c main_arg3 i = (x : EReal)) ∧ ∀ i : S4x4096x1024.Idx, ∃ x : ℝ, V m c main_arg1 i = (x : EReal)

variable {m}

/-- A block's decays are real. -/
theorem real_A {c : Dev nD} (hr : AllReal m c) (t : Fin cfg0.N) (j : ℕ) : ∃ x : ℝ, rowSeq (blkA m c t) p d j = x := by
  unfold rowSeq; rw [blkA_at]; exact hr.1 _

/-- A block's inputs are real. -/
theorem real_B {c : Dev nD} (hr : AllReal m c) (t : Fin cfg0.N) (j : ℕ) : ∃ x : ℝ, rowSeq (blkB m c t) p d j = x := by
  unfold rowSeq; rw [blkB_at]; exact hr.2 _

/-- A block's recurrence is the array's recurrence, from the block's first time on. -/
theorem scan_block (c : Dev nD) (t : Fin cfg0.N) (n : ℕ) (hn : n ≤ 512) :
    scan (rowSeq (blkA m c t) p d) (rowSeq (blkB m c t) p d)
        (scan (decays m c (batchOf t p) d) (inputs m c (batchOf t p) d) 0 (512 * (t.val % 8))) n
      = scan (decays m c (batchOf t p) d) (inputs m c (batchOf t p) d) 0 (512 * (t.val % 8) + n) := by
  rw [scan_add]
  exact scan_congr (fun j hj => rowSeq_A p d m c t j (by omega)) fun j hj => rowSeq_B p d m c t j (by omega)

/-- Every state of the recurrence is real. -/
theorem states_real {c : Dev nD} (hr : AllReal m c) (q : Fin 4) (n : ℕ) :
    ∃ x : ℝ, scan (decays m c q d) (inputs m c q d) 0 n = x :=
  scan_real (fun _ => hr.1 _) (fun _ => hr.2 _) ⟨0, rfl⟩ n

/-- The state a point starts from is the array's recurrence at the block's first time. -/
theorem enters_scan {c : Dev nD} (hr : AllReal m c) : ∀ (n : ℕ) (t : Fin cfg0.N), t.val = n →
    enters m c t (ix3 p 0 d) = scan (decays m c (batchOf t p) d) (inputs m c (batchOf t p) d) 0 (512 * (t.val % 8)) := by
  intro n
  induction n with
  | zero =>
    intro t ht
    rw [enters_reset m c t (by omega), show 512 * (t.val % 8) = 0 by omega]
    unfold k0_pay1
    pointwise
    try rfl
  | succ n ih =>
    intro t ht
    by_cases h8 : t.val % 8 = 0
    · rw [enters_reset m c t h8, show 512 * (t.val % 8) = 0 by omega]
      unfold k0_pay1
      pointwise
      try rfl
    · have hlt : t.val - 1 < cfg0.N := Nat.lt_of_le_of_lt (Nat.sub_le _ _) t.isLt
      have hb : batchOf ⟨t.val - 1, hlt⟩ p = batchOf t p :=
        Fin.ext (by show 2 * ((t.val - 1) / 8) + p.val = 2 * (t.val / 8) + p.val; omega)
      have hi := ih ⟨t.val - 1, hlt⟩ (by show t.val - 1 = n; omega)
      have hl := leaves_eq m c ⟨t.val - 1, hlt⟩
      rw [enters_keep m c t h8]
      refine (congrFun hl _).trans ?_
      rw [carry_scan _ _ _ p d (real_A p d hr _) (real_B p d hr _) (by rw [hi]; exact states_real d hr _ _), hi,
        scan_block p d c _ _ (by norm_num), hb]
      congr 1
      show 512 * ((t.val - 1) % 8) + 8 * 64 = 512 * (t.val % 8)
      omega

/-- What the output array holds: the third input times the state after the time's step. -/
theorem final_out {c : Dev nD} (hr : AllReal m c) :
    (dats m 0 c).arrAt 3 cfg0.N = weighted (V m c main_arg3) (V m c main_arg1) (V m c main_arg2) := by
  refine (dats m 0 c).arrAt_eq_of_covers 3 _ (by decide +kernel : (cfg0.win 3).Covers) fun t hf y => ?_
  blk_simp
  rw [after_3]
  idx_vars y
  have hi : ((win0_3.blk t).view.emb (ix3 y0 y1 y2) : S4x4096x1024.Idx) = ix3 (batchOf t y0) (timeOf t y1) y2 := by
    blk_ext [e3, batchOf, timeOf]
  have he := enters_scan y0 y2 hr t.val t rfl
  refine Eq.trans ?_ (congrArg (weighted (V m c main_arg3) (V m c main_arg1) (V m c main_arg2)) hi.symm)
  rw [outBlock_scan _ _ _ y0 y2 _ (real_A y0 y2 hr t) (real_B y0 y2 hr t) (by rw [he]; exact states_real y2 hr _ _), he,
    scan_block y0 y2 c t _ (by have := y1.isLt; omega), blkC_at]
  rfl

end Cert.KernelIdeal.Scan
-- ==== Proof.Same.lean ====
module

public import proofs.«01_k».proof.Proof.Scan.Run
public import proofs.«01_k».proof.Proof.Gen.Kernel
public import proofs.«01_k».proof.Proof.Gen.KernelIdeal

@[expose] public section

set_option maxRecDepth 16384

/-! # The kernel and its idealization are one program

The idealization rewrote nothing, so the two printed programs are the same text and what is proved of the
idealization at every float instance holds of the kernel. -/

noncomputable section

namespace Cert.Kernel.Scan

open Cert.Kernel
open Idealize.ShloMosaic Idealize.SL.Sem

variable {F : FTy → Type} [FloatOps F]

/-- The two programs' bodies agree at every label. -/
theorem bodies_eq : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | ⟨0, _⟩, _ => rfl

/-- The two programs' body tables agree. -/
theorem defs_eq : Cert.Kernel.defs (F := F) = Cert.KernelIdeal.defs (F := F) :=
  congrArg (Pipeline.defs _) bodies_eq

/-- The kernel runs at every float instance, leaves its arguments unchanged and every semaphore at zero. -/
theorem frame (m : (ℓ : Loc nD τ sig) → Buf (Elt F) ℓ) (ρ : Dev nD → PrngReg) :
    θ_run (defs (F := F)) (onTc (τ := τ) (main (F := F))) ⟨m, fun _ => 0, ρ⟩
      fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 := by
  rw [defs_eq]
  exact Cert.KernelIdeal.Scan.frame m ρ

end Cert.Kernel.Scan

end
-- ==== Proof.Ref.Value.lean ====
module

public import proofs.«01_k».proof.Proof.Gen.ReferenceIdeal.Run
public import proofs.«01_k».proof.Proof.Scan.Chunk
public import Idealize.ShloMosaic.Lib.DynamicIndex
public import Idealize.ShloMosaic.Lib.Pointwise

@[expose] public section

set_option maxRecDepth 16384

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.KernelIdeal.Scan (scan timeSeq weighted)

/-! ## One time's slice, read and written -/

section Slices
variable {α : Type} (n : ℕ) (hn : n < 4096) (start : Fin 3 → Int) (hs : ∀ a, start a = ((![n, 0, 0] : Fin 3 → ℕ) a : Int))
include hn hs

/-- A slice's start at time `n` is in bounds, so clamping leaves it. -/
theorem clamp_eq (a : Fin 3) :
    Host.clampedStart S4096x4x1024 S1x4x1024 rfl start a = (![n, 0, 0] : Fin 3 → ℕ) a := by
  unfold Host.clampedStart
  rw [hs a]
  fin_cases a
  · show (min (max (n : Int) 0) ((4096 - 1 : ℕ) : Int)).toNat = n; omega
  · rfl
  · rfl

/-- The slice of an array at time `n`. -/
theorem slice_at (x : S4096x4x1024.Idx → α) (q : Fin 4) (d : Fin 1024) :
    shapeCast S4x1024 (Host.dynamicSlice S1x4x1024 x start sliceFits_S4096x4x1024_S1x4x1024) shapeCasts_S1x4x1024_S4x1024 (ix2 q d)
      = x (ix3 ⟨n, hn⟩ q d) := by
  have hsl : S4096x4x1024.Slices ![n, 0, 0] S1x4x1024 := by
    refine ⟨rfl, fun a => ?_⟩
    fin_cases a
    · show n + 1 ≤ 4096; omega
    · show 0 + 4 ≤ 4; omega
    · show 0 + 1024 ≤ 1024; omega
  rw [Host.dynamicSlice_eq_extractStridedSlice S1x4x1024 x start ![n, 0, 0] _ hsl hs]
  pointwise
  try rfl

/-- Writing an array's time `n` changes that time and no other. -/
theorem update_at (x : S4096x4x1024.Idx → α) (w : S4x1024.Idx → α) (t : Fin 4096) (q : Fin 4) (d : Fin 1024) :
    Host.dynamicUpdateSlice x (broadcastInDim S1x4x1024 ![1, 2] bcast_S4x1024_S1x4x1024_1_2 w) start updateFits_S4096x4x1024_S1x4x1024 (ix3 t q d)
      = if t.val = n then w (ix2 q d) else x (ix3 t q d) := by
  rw [Host.dynamicUpdateSlice_apply]
  have c0 := clamp_eq n hn start hs 0
  have c1 := clamp_eq n hn start hs 1
  have c2 := clamp_eq n hn start hs 2
  by_cases h : t.val = n
  · rw [if_pos h, dif_pos]
    · pointwise
      congr 2
      · exact Fin.ext (by show q.val - Host.clampedStart S4096x4x1024 S1x4x1024 rfl start 1 = q.val; rw [c1]; rfl)
      · exact Fin.ext (by show d.val - Host.clampedStart S4096x4x1024 S1x4x1024 rfl start 2 = d.val; rw [c2]; rfl)
    · intro a
      fin_cases a
      · refine ⟨le_of_eq_of_le c0 ?_, ?_⟩
        · show n ≤ t.val; omega
        · show t.val < Host.clampedStart S4096x4x1024 S1x4x1024 rfl start 0 + 1
          rw [c0]; show t.val < n + 1; omega
      · refine ⟨le_of_eq_of_le c1 (Nat.zero_le _), ?_⟩
        show q.val < Host.clampedStart S4096x4x1024 S1x4x1024 rfl start 1 + 4
        have := q.isLt; omega
      · refine ⟨le_of_eq_of_le c2 (Nat.zero_le _), ?_⟩
        show d.val < Host.clampedStart S4096x4x1024 S1x4x1024 rfl start 2 + 1024
        have := d.isLt; omega
  · rw [if_neg h, dif_neg]
    intro hin
    have h0 := hin 0
    have h1 : n ≤ t.val := le_of_eq_of_le c0.symm h0.1
    have h2 : t.val < Host.clampedStart S4096x4x1024 S1x4x1024 rfl start 0 + 1 := h0.2
    rw [c0] at h2
    exact h (by have h3 : t.val < n + 1 := h2; omega)

end Slices

/-! ## The loop -/

/-- Before trip `n`: the three arrays with time first, the trip number, the state after `n` steps, and the outputs of the
    times before `n`. -/
structure Held (a b c : S4x4096x1024.Idx → EReal) (V0 : Valuation τ sig (Elt Ideal)) (n : ℕ) : Prop where
  f_0 : ∀ t q d, (V0 (Proc.devRef .tc main_v5_0) : S4096x4x1024.Idx → EReal) (ix3 t q d) = a (ix3 q t d)
  f_1 : ∀ t q d, (V0 (Proc.devRef .tc main_v5_1) : S4096x4x1024.Idx → EReal) (ix3 t q d) = b (ix3 q t d)
  f_2 : ∀ t q d, (V0 (Proc.devRef .tc main_v5_2) : S4096x4x1024.Idx → EReal) (ix3 t q d) = c (ix3 q t d)
  f_3 : V0 (Proc.devRef .tc main_v5_3) = constantI S_ 32 (BitVec.ofNat 32 n)
  f_4 : ∀ q d, (V0 (Proc.devRef .tc main_v5_4) : S4x1024.Idx → EReal) (ix2 q d) = scan (timeSeq a q d) (timeSeq b q d) 0 n
  f_5 : ∀ (t : Fin 4096) q d, t.val < n →
    (V0 (Proc.devRef .tc main_v5_5) : S4096x4x1024.Idx → EReal) (ix3 t q d) = weighted a b c (ix3 q t d)

variable {a b c : S4x4096x1024.Idx → EReal} {V0 : Valuation τ sig (Elt Ideal)} {n : ℕ}

/-- Where trip `n`'s slices start. -/
theorem starts (hf : V0 (Proc.devRef .tc main_v5_3) = constantI S_ 32 (BitVec.ofNat 32 n)) (hn : n < 4096) (k : Fin 3) :
    ((![V0 (Proc.devRef .tc main_v5_3), constantI S_ 32 0#32, constantI S_ 32 0#32] : Fin 3 → (⟨S_, .i32⟩ : BufTy).Contents (Elt Ideal))
      k (Shape.Idx.first h_S_)).toInt = ((![n, 0, 0] : Fin 3 → ℕ) k : Int) := by
  rw [hf]
  fin_cases k
  · show (BitVec.ofNat 32 n).toInt = (n : Int)
    rw [BitVec.toInt_eq_toNat_cond, BitVec.toNat_ofNat]; omega
  · rfl
  · rfl

/-- The sequence over time at an actual time is the array's entry. -/
theorem timeSeq_lt (x : S4x4096x1024.Idx → EReal) (hn : n < 4096) (q : Fin 4) (d : Fin 1024) :
    timeSeq x q d n = x (ix3 q ⟨n, hn⟩ d) := by
  unfold timeSeq
  congr 2
  exact Fin.ext (Nat.mod_eq_of_lt hn)

/-- The state trip `n` computes. -/
theorem state_step (h : Held a b c V0 n) (hn : n < 4096) (q : Fin 4) (d : Fin 1024) :
    (res_main_while0b_v11 V0 : S4x1024.Idx → EReal) (ix2 q d) = scan (timeSeq a q d) (timeSeq b q d) 0 (n + 1) := by
  have ea := (slice_at n hn _ (starts h.f_3 hn) (V0 (Proc.devRef .tc main_v5_0)) q d).trans (h.f_0 _ q d)
  have eb := (slice_at n hn _ (starts h.f_3 hn) (V0 (Proc.devRef .tc main_v5_1)) q d).trans (h.f_1 _ q d)
  rw [← timeSeq_lt a hn] at ea
  rw [← timeSeq_lt b hn] at eb
  exact congrArg₂ (fun x y : EReal => x + y) (congrArg₂ (fun x y : EReal => x * y) ea (h.f_4 q d)) eb

/-- One trip keeps the loop's values the scan's. -/
theorem held_step (h : Held a b c V0 n) (hn : n < 4096) : Held a b c (STEP V0) (n + 1) where
  f_0 t q d := (congrFun (STEP_main_v5_0 V0) _).trans (h.f_0 t q d)
  f_1 t q d := (congrFun (STEP_main_v5_1 V0) _).trans (h.f_1 t q d)
  f_2 t q d := (congrFun (STEP_main_v5_2 V0) _).trans (h.f_2 t q d)
  f_3 := by
    refine (STEP_main_v5_3 V0).trans ?_
    unfold step_main_v5_3
    rw [h.f_3]
    funext i
    show BitVec.ofNat 32 n + 1#32 = BitVec.ofNat 32 (n + 1)
    simp only [BitVec.ofNat_add]
  f_4 q d := (congrFun (STEP_main_v5_4 V0) _).trans (state_step h hn q d)
  f_5 t q d ht := by
    refine (congrFun (STEP_main_v5_5 V0) _).trans ?_
    unfold step_main_v5_5
    refine (update_at n hn _ (starts h.f_3 hn) _ _ t q d).trans ?_
    by_cases htn : t.val = n
    · rw [if_pos htn]
      have ec := (slice_at n hn _ (starts h.f_3 hn) (V0 (Proc.devRef .tc main_v5_2)) q d).trans (h.f_2 _ q d)
      obtain rfl : t = ⟨n, hn⟩ := Fin.ext htn
      exact congrArg₂ (fun x y : EReal => x * y) ec (state_step h hn q d)
    · rw [if_neg htn]
      exact h.f_5 t q d (by omega)

variable (m : (ℓ : Loc nD τ sig) → Buf (Elt Ideal) ℓ) (e : Dev nD)

/-! What @main's operations before the loop leave: the three arrays with time first, trip number 0, a zero state. -/

set_option maxRecDepth 65536 in
set_option maxHeartbeats 300000 in
/-- The decays, time first. -/
theorem entry_0 : entryContents preI m e (Proc.devRef .tc main_v5_0)
    = transpose S4096x4x1024 [1, 0, 2] (m ((e.tc : Thread nD τ).loc main_arg3)) transposes_S4x4096x1024_S4096x4x1024_1_0_2 := by
  simp only [entryContents, afterL_cons, afterL_nil]
  after_reads_simp
  rfl

set_option maxRecDepth 65536 in
set_option maxHeartbeats 300000 in
/-- The inputs, time first. -/
theorem entry_1 : entryContents preI m e (Proc.devRef .tc main_v5_1)
    = transpose S4096x4x1024 [1, 0, 2] (m ((e.tc : Thread nD τ).loc main_arg1)) transposes_S4x4096x1024_S4096x4x1024_1_0_2 := by
  simp only [entryContents, afterL_cons, afterL_nil]
  after_reads_simp
  rfl

set_option maxRecDepth 65536 in
set_option maxHeartbeats 300000 in
/-- The output weights, time first. -/
theorem entry_2 : entryContents preI m e (Proc.devRef .tc main_v5_2)
    = transpose S4096x4x1024 [1, 0, 2] (m ((e.tc : Thread nD τ).loc main_arg2)) transposes_S4x4096x1024_S4096x4x1024_1_0_2 := by
  simp only [entryContents, afterL_cons, afterL_nil]
  after_reads_simp
  rfl

set_option maxRecDepth 65536 in
set_option maxHeartbeats 300000 in
/-- The trip number starts at zero. -/
theorem entry_3 : entryContents preI m e (Proc.devRef .tc main_v5_3) = constantI S_ 32 0#32 := by
  simp only [entryContents, afterL_cons, afterL_nil]
  after_reads_simp
  rfl

set_option maxRecDepth 65536 in
set_option maxHeartbeats 300000 in
/-- The state starts at zero. -/
theorem entry_4 : entryContents preI m e (Proc.devRef .tc main_v5_4)
    = broadcastInDim S4x1024 ![] bcast_S_S4x1024 (constant (F := Ideal) S_ .f32 0x00000000#32) := by
  simp only [entryContents, afterL_cons, afterL_nil]
  after_reads_simp
  rfl

/-- What stands before the first trip. -/
theorem held_entry : Held (m ((e.tc : Thread nD τ).loc main_arg3)) (m ((e.tc : Thread nD τ).loc main_arg1))
    (m ((e.tc : Thread nD τ).loc main_arg2)) (entryContents preI m e) 0 where
  f_0 t q d := by
    refine (congrFun (entry_0 m e) _).trans ?_
    pointwise
    try rfl
  f_1 t q d := by
    refine (congrFun (entry_1 m e) _).trans ?_
    pointwise
    try rfl
  f_2 t q d := by
    refine (congrFun (entry_2 m e) _).trans ?_
    pointwise
    try rfl
  f_3 := entry_3 m e
  f_4 q d := by
    refine (congrFun (entry_4 m e) _).trans ?_
    pointwise
    try rfl
  f_5 t q d ht := absurd ht (Nat.not_lt_zero _)

/-- What the result array holds after the loop: the selective scan. -/
theorem result_eq : out_main_v6 (STEP^[4096] (entryContents preI m e))
    = weighted (m ((e.tc : Thread nD τ).loc main_arg3)) (m ((e.tc : Thread nD τ).loc main_arg1))
      (m ((e.tc : Thread nD τ).loc main_arg2)) := by
  have hk : ∀ k, k ≤ 4096 → Held (m ((e.tc : Thread nD τ).loc main_arg3)) (m ((e.tc : Thread nD τ).loc main_arg1))
      (m ((e.tc : Thread nD τ).loc main_arg2)) (STEP^[k] (entryContents preI m e)) k := by
    intro k
    induction k with
    | zero => exact fun _ => held_entry m e
    | succ k ih =>
      intro hle
      rw [Function.iterate_succ_apply']
      exact held_step (ih (by omega)) (by omega)
  have h := hk 4096 le_rfl
  generalize STEP^[4096] (entryContents preI m e) = W at h ⊢
  funext i
  unfold out_main_v6
  idx_vars i
  refine Eq.trans ?_ (h.f_5 i1 i0 i2 i1.isLt)
  pointwise
  try rfl

/-- The reference runs, its result array holds the selective scan of its arguments, and its arguments are unchanged. -/
theorem run_value (ρ : Dev nD → PrngReg) :
    θ_run (defs (F := Ideal)) (onTc (τ := τ) (main (F := Ideal))) ⟨m, fun _ => 0, ρ⟩ fun r => ∀ e : Dev nD,
      r.2.mem ((e.tc : Thread nD τ).loc main_v6) = weighted (m ((e.tc : Thread nD τ).loc main_arg3))
        (m ((e.tc : Thread nD τ).loc main_arg1)) (m ((e.tc : Thread nD τ).loc main_arg2))
      ∧ r.2.mem ((e.tc : Thread nD τ).loc main_arg0) = m ((e.tc : Thread nD τ).loc main_arg0)
      ∧ r.2.mem ((e.tc : Thread nD τ).loc main_arg1) = m ((e.tc : Thread nD τ).loc main_arg1)
      ∧ r.2.mem ((e.tc : Thread nD τ).loc main_arg2) = m ((e.tc : Thread nD τ).loc main_arg2)
      ∧ r.2.mem ((e.tc : Thread nD τ).loc main_arg3) = m ((e.tc : Thread nD τ).loc main_arg3) :=
  (θ_run defs _ _).mono (fun _ h e => ⟨(h e).1.trans (result_eq m e), (h e).2⟩) (Cert.ReferenceIdeal.Value.run (F := Ideal) m ρ)

end Cert.ReferenceIdeal.Scan
-- ==== Proof.Finite.lean ====
module

public import proofs.«01_k».proof.Proof.Gen.Pre_finite
public import Idealize.ShloMosaic.Lib.ReduceAll
public import Idealize.ShloMosaic.Lib.Pointwise

@[expose] public section

set_option maxRecDepth 16384

noncomputable section

namespace Cert.Pre_finite.Decode

open Idealize.ShloMosaic
open Cert.Pre_finite

/-- An extended real whose absolute value is below infinity is a real number. -/
theorem real_of_abs_lt (x : EReal) (h : Ideal.cmp .olt (max x (-x)) (Ideal.ofBits .f32 0x7F800000#32) = 1#1) :
    ∃ r : ℝ, x = r := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- What the precondition says: every decay and every input is a real number. -/
theorem reals (x b c a : FVec Ideal S4x4096x1024 .f32) (h : fn (F := Ideal) x b c a = fun _ => 1#1) :
    (∀ i, ∃ r : ℝ, a i = (r : EReal)) ∧ ∀ i, ∃ r : ℝ, b i = (r : EReal) := by
  obtain ⟨e1, e2⟩ := IntOp.andi_eq_one.1 (congrFun h (Shape.Idx.first Facts.h_S_))
  haveI : Subsingleton S_.Idx := ⟨fun u v => funext fun k => k.elim0⟩
  exact ⟨fun i => real_of_abs_lt _ (Host.reduce_andi_all _ _ _ _ _ e1 i),
    fun i => real_of_abs_lt _ (Host.reduce_andi_all _ _ _ _ _ e2 i)⟩

end Cert.Pre_finite.Decode
-- ==== Proof.lean ====
module

public import proofs.«01_k».proof.Defs
public import proofs.«01_k».proof.Proof.Gen.Kernel
public import proofs.«01_k».proof.Proof.Gen.ReferenceIdeal.Run
public import proofs.«01_k».proof.Proof.Gen.Pre_finite
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Scan.Value
public import proofs.«01_k».proof.Proof.Same
public import proofs.«01_k».proof.Proof.Ref.Value
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The idealized kernel's run and the reference's end with the same array, where decays and inputs are finite. -/
theorem same_result : Cert.algebraic_KernelIdeal_ReferenceIdeal_pre_finite := by
  intro m ρ m' ρ' hpre hagree
  refine ⟨fun c => Cert.KernelIdeal.Scan.weighted
    (m ((c.tc : Thread Cert.KernelIdeal.nD Cert.KernelIdeal.τ).loc Cert.KernelIdeal.main_arg3))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Scan.run_value (F := Ideal) m ρ)
    exact Cert.KernelIdeal.Scan.final_out (Cert.Pre_finite.Decode.reals _ _ _ _ (hpre c))
  · refine (θ_run Cert.ReferenceIdeal.defs _ _).mono (fun r h c => ⟨(h c).1.trans ?_, (h c).2⟩)
      (Cert.ReferenceIdeal.Scan.run_value m' ρ')
    rw [(hagree c).2.1, (hagree c).2.2.1, (hagree c).2.2.2]

/-- The reference runs, leaves its arguments unchanged and every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0 :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Everything claimed. -/
theorem claim : Cert.Claim := ⟨Cert.Kernel.Gen.facts, Cert.KernelIdeal.Gen.facts, Cert.ReferenceIdeal.Gen.facts, Cert.Pre_finite.Gen.facts,
  fun m ρ _ => Cert.Kernel.Scan.frame m ρ,
  fun m ρ _ => Cert.KernelIdeal.Scan.frame m ρ,
  fun m ρ _ => Cert.KernelIdeal.Scan.frame m ρ,
  fun m ρ _ => reference_frame m ρ,
  fun m ρ _ => reference_frame m ρ,
  trivial,
  same_result⟩

end Cert.Proof

end
